-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x768x4096 : Shape := ⟨3, ![3, 768, 4096]⟩
abbrev S3x768x1 : Shape := ⟨3, ![3, 768, 1]⟩
abbrev S4096x3072 : Shape := ⟨2, ![4096, 3072]⟩
abbrev S3072 : Shape := ⟨1, ![3072]⟩
abbrev S2304x4096 : Shape := ⟨2, ![2304, 4096]⟩
abbrev S2304x1 : Shape := ⟨2, ![2304, 1]⟩
abbrev S1x3072 : Shape := ⟨2, ![1, 3072]⟩
abbrev S2304x3072 : Shape := ⟨2, ![2304, 3072]⟩
abbrev S768x4096 : Shape := ⟨2, ![768, 4096]⟩
abbrev S768x1 : Shape := ⟨2, ![768, 1]⟩
abbrev S4096x1024 : Shape := ⟨2, ![4096, 1024]⟩
abbrev S1x1024 : Shape := ⟨2, ![1, 1024]⟩
abbrev S768x1024 : Shape := ⟨2, ![768, 1024]⟩
abbrev S3x768x3072 : Shape := ⟨3, ![3, 768, 3072]⟩

abbrev nBuf : Space → Nat
  | .hbm => 9
  | .vmem => 10
  | .smem => 0
  | _ => 0

abbrev bufTy : (tb : Table) → Fin (tcTables nBuf tb) → BufTy
  | .hbm, ⟨0, _⟩ => ⟨S3x768x4096, .fp8e4m3⟩
  | .hbm, ⟨1, _⟩ => ⟨S3x768x1, .f32⟩
  | .hbm, ⟨2, _⟩ => ⟨S4096x3072, .fp8e4m3⟩
  | .hbm, ⟨3, _⟩ => ⟨S3072, .f32⟩
  | .hbm, ⟨4, _⟩ => ⟨S2304x4096, .fp8e4m3⟩
  | .hbm, ⟨5, _⟩ => ⟨S2304x1, .f32⟩
  | .hbm, ⟨6, _⟩ => ⟨S1x3072, .f32⟩
  | .hbm, ⟨7, _⟩ => ⟨S2304x3072, .bf16⟩
  | .hbm, ⟨8, _⟩ => ⟨S3x768x3072, .bf16⟩
  | .local _ .vmem, ⟨0, _⟩ => ⟨S768x4096, .fp8e4m3⟩
  | .local _ .vmem, ⟨1, _⟩ => ⟨S768x4096, .fp8e4m3⟩
  | .local _ .vmem, ⟨2, _⟩ => ⟨S768x1, .f32⟩
  | .local _ .vmem, ⟨3, _⟩ => ⟨S768x1, .f32⟩
  | .local _ .vmem, ⟨4, _⟩ => ⟨S4096x1024, .fp8e4m3⟩
  | .local _ .vmem, ⟨5, _⟩ => ⟨S4096x1024, .fp8e4m3⟩
  | .local _ .vmem, ⟨6, _⟩ => ⟨S1x1024, .f32⟩
  | .local _ .vmem, ⟨7, _⟩ => ⟨S1x1024, .f32⟩
  | .local _ .vmem, ⟨8, _⟩ => ⟨S768x1024, .bf16⟩
  | .local _ .vmem, ⟨9, _⟩ => ⟨S768x1024, .bf16⟩
  | _, _ => ⟨S3x768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S3x768x4096 : Shape := ⟨3, ![3, 768, 4096]⟩
abbrev S3x768x1 : Shape := ⟨3, ![3, 768, 1]⟩
abbrev S4096x3072 : Shape := ⟨2, ![4096, 3072]⟩
abbrev S3072 : Shape := ⟨1, ![3072]⟩
abbrev S3x768x3072 : Shape := ⟨3, ![3, 768, 3072]⟩
abbrev S1x1x3072 : Shape := ⟨3, ![1, 1, 3072]⟩

abbrev nBuf : Space → Nat
  | .hbm => 5
  | .vmem => 5
  | .smem => 0
  | _ => 0

abbrev bufTy : (tb : Table) → Fin (tcTables nBuf tb) → BufTy
  | .hbm, ⟨0, _⟩ => ⟨S3x768x4096, .fp8e4m3⟩
  | .hbm, ⟨1, _⟩ => ⟨S3x768x1, .f32⟩
  | .hbm, ⟨2, _⟩ => ⟨S4096x3072, .fp8e4m3⟩
  | .hbm, ⟨3, _⟩ => ⟨S3072, .f32⟩
  | .hbm, ⟨4, _⟩ => ⟨S3x768x3072, .bf16⟩
  | .local _ .vmem, ⟨0, _⟩ => ⟨S3x768x4096, .fp8e4m3⟩
  | .local _ .vmem, ⟨1, _⟩ => ⟨S3x768x1, .f32⟩
  | .local _ .vmem, ⟨2, _⟩ => ⟨S4096x3072, .fp8e4m3⟩
  | .local _ .vmem, ⟨3, _⟩ => ⟨S3072, .f32⟩
  | .local _ .vmem, ⟨4, _⟩ => ⟨S3x768x3072, .bf16⟩
  | _, _ => ⟨S3x768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x768x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
module

public import proofs.«01_k».proof.Proof.Gen.KernelIdeal.Frame
public import proofs.«01_k».proof.Proof.Gen.ReferenceIdeal.Value
public import Idealize.ShloMosaic.Lib.Pointwise

@[expose] public section

set_option maxRecDepth 16384

noncomputable section

namespace Cert.Gelu

open Idealize.ShloMosaic

/-- The tanh form of GELU of one extended real: the constants `0.5`, `sqrt (2 / π)` and `0.044715` are the 32-bit floats
    that both programs write, each read as the real number it stands for. -/
def gelu (h : EReal) : EReal :=
  Ideal.ofBits .f32 0x3F000000#32 * h *
    (1 + Ideal.tanh (Ideal.ofBits .f32 0x3F4C422A#32 *
      (h + Ideal.ofBits .f32 0x3D372713#32 * h * h * h)))

/-- What the kernel's body stores, at row `i` and column `j` of a block. -/
theorem kernel_block (x : Vec Ideal Cert.KernelIdeal.S768x4096 .fp8e4m3) (w : Vec Ideal Cert.KernelIdeal.S4096x1024 .fp8e4m3)
    (xs : Vec Ideal Cert.KernelIdeal.S768x1 .f32) (ws : Vec Ideal Cert.KernelIdeal.S1x1024 .f32) (i : Fin 768) (j : Fin 1024) :
    Cert.KernelIdeal.Gen.k0_pay1 (F := Ideal) x w xs ws (ix2 i j)
      = gelu ((∑ k : Fin 4096, (x (ix2 i k) : EReal) * w (ix2 k j)) * xs (ix2 i 0) * ws (ix2 0 j)) := by
  unfold Cert.KernelIdeal.Gen.k0_pay1 gelu
  pointwise

/-- What the reference stores, at batch `b`, position `s` and output column `j`. -/
theorem reference_at (x : Vec Ideal Cert.ReferenceIdeal.S3x768x4096 .fp8e4m3) (xs : Vec Ideal Cert.ReferenceIdeal.S3x768x1 .f32)
    (w : Vec Ideal Cert.ReferenceIdeal.S4096x3072 .fp8e4m3) (ws : Vec Ideal Cert.ReferenceIdeal.S3072 .f32)
    (b : Fin 3) (s : Fin 768) (j : Fin 3072) :
    Cert.ReferenceIdeal.Gen.k0_pay1 (F := Ideal) x xs w ws (ix3 b s j)
      = gelu ((∑ k : Fin 4096, (x (ix3 b s k) : EReal) * w (ix2 k j)) * xs (ix3 b s 0) * ws (ix1 j)) := by
  unfold Cert.ReferenceIdeal.Gen.k0_pay1 gelu
  pointwise

end Cert.Gelu

end
-- ==== Proof.Array.lean ====
module

public import proofs.«01_k».proof.Proof.Block
public import Idealize.ShloMosaic.Lib.Pipeline.Value

@[expose] public section

set_option maxRecDepth 16384

noncomputable section

namespace Cert.Gelu.Kernel

open Cert.KernelIdeal Cert.KernelIdeal.Gen Idealize.ShloMosaic Idealize.ShloMosaic.TcCoe Idealize.SL.Sem
open Idealize.ShloMosaic.Pipeline (Dat)

/-- The whole flattened result as one function of the flattened operands: row `r`, column `j` holds GELU of the scaled
    product of row `r` of the activations and column `j` of the weights. -/
def flat (x : Vec Ideal S2304x4096 .fp8e4m3) (xs : Vec Ideal S2304x1 .f32) (w : Vec Ideal S4096x3072 .fp8e4m3)
    (ws : Vec Ideal S1x3072 .f32) : Vec Ideal S2304x3072 .bf16 := fun i =>
  gelu ((∑ k : Fin 4096, (x (ix2 (i 0) k) : EReal) * w (ix2 k (i 1))) * xs (ix2 (i 0) 0) * ws (ix2 0 (i 1)))

variable (m : (ℓ : Loc nD τ sig) → Buf (Elt Ideal) ℓ) (ρ : Dev nD → PrngReg)

theorem hz : (![0, 0] : Fin 2 → Nat) = fun _ => 0 := funext fun a => by fin_cases a <;> rfl

/-- Where each window's block starts at grid point `t`: the row block is `t % 3` and the column block `t / 3`. -/
theorem idx : ∀ t : Fin cfg0.N,
    win0_0.index t (0 : Fin 2) = t.val % 3 ∧ win0_0.index t (1 : Fin 2) = 0
    ∧ win0_1.index t (0 : Fin 2) = t.val % 3 ∧ win0_1.index t (1 : Fin 2) = 0
    ∧ win0_2.index t (0 : Fin 2) = 0 ∧ win0_2.index t (1 : Fin 2) = t.val / 3
    ∧ win0_3.index t (0 : Fin 2) = 0 ∧ win0_3.index t (1 : Fin 2) = t.val / 3
    ∧ win0_4.index t (0 : Fin 2) = t.val % 3 ∧ win0_4.index t (1 : Fin 2) = t.val / 3 :=
  (by decide +kernel : ∀ t : Fin grid0.N, _)

theorem lt9 (t : Fin cfg0.N) : t.val < 9 := lt_of_lt_of_eq t.isLt N_0

/-- The array row of row `i` of the row block at grid point `t`. -/
def row (t : Fin cfg0.N) (i : Fin 768) : Fin 2304 := ⟨t.val % 3 * 768 + i.val, by omega⟩
/-- The array column of column `j` of the column block at grid point `t`. -/
def col (t : Fin cfg0.N) (j : Fin 1024) : Fin 3072 := ⟨t.val / 3 * 1024 + j.val, by have := lt9 t; omega⟩

theorem emb0 (t : Fin cfg0.N) (i : Fin 768) (k : Fin 4096) : ((cfg0.win 0).blk t).view.emb (ix2 i k) = ix2 (row t i) k := by
  obtain ⟨e0, e1, -⟩ := idx t
  funext a; apply Fin.ext
  match a with
  | ⟨0, _⟩ => show win0_0.index t (0 : Fin 2) * 768 + 1 * i.val = t.val % 3 * 768 + i.val; rw [e0]; omega
  | ⟨1, _⟩ => show win0_0.index t (1 : Fin 2) * 4096 + 1 * k.val = k.val; rw [e1]; omega

theorem emb1 (t : Fin cfg0.N) (i : Fin 768) (k : Fin 1) : ((cfg0.win 1).blk t).view.emb (ix2 i k) = ix2 (row t i) k := by
  obtain ⟨-, -, e0, e1, -⟩ := idx t
  funext a; apply Fin.ext
  match a with
  | ⟨0, _⟩ => show win0_1.index t (0 : Fin 2) * 768 + 1 * i.val = t.val % 3 * 768 + i.val; rw [e0]; omega
  | ⟨1, _⟩ => show win0_1.index t (1 : Fin 2) * 1 + 1 * k.val = k.val; rw [e1]; omega

theorem emb2 (t : Fin cfg0.N) (k : Fin 4096) (j : Fin 1024) : ((cfg0.win 2).blk t).view.emb (ix2 k j) = ix2 k (col t j) := by
  obtain ⟨-, -, -, -, e0, e1, -⟩ := idx t
  funext a; apply Fin.ext
  match a with
  | ⟨0, _⟩ => show win0_2.index t (0 : Fin 2) * 4096 + 1 * k.val = k.val; rw [e0]; omega
  | ⟨1, _⟩ => show win0_2.index t (1 : Fin 2) * 1024 + 1 * j.val = t.val / 3 * 1024 + j.val; rw [e1]; omega

theorem emb3 (t : Fin cfg0.N) (k : Fin 1) (j : Fin 1024) : ((cfg0.win 3).blk t).view.emb (ix2 k j) = ix2 k (col t j) := by
  obtain ⟨-, -, -, -, -, -, e0, e1, -⟩ := idx t
  funext a; apply Fin.ext
  match a with
  | ⟨0, _⟩ => show win0_3.index t (0 : Fin 2) * 1 + 1 * k.val = k.val; rw [e0]; omega
  | ⟨1, _⟩ => show win0_3.index t (1 : Fin 2) * 1024 + 1 * j.val = t.val / 3 * 1024 + j.val; rw [e1]; omega

theorem emb4 (t : Fin cfg0.N) (i : Fin 768) (j : Fin 1024) : ((cfg0.win 4).blk t).view.emb (ix2 i j) = ix2 (row t i) (col t j) := by
  obtain ⟨-, -, -, -, -, -, -, -, e0, e1⟩ := idx t
  funext a; apply Fin.ext
  match a with
  | ⟨0, _⟩ => show win0_4.index t (0 : Fin 2) * 768 + 1 * i.val = t.val % 3 * 768 + i.val; rw [e0]; omega
  | ⟨1, _⟩ => show win0_4.index t (1 : Fin 2) * 1024 + 1 * j.val = t.val / 3 * 1024 + j.val; rw [e1]; omega

/-- Each input block read at an index is its array read at the matching row and column. -/
theorem iblk0_at (c : Dev nD) (t : Fin cfg0.N) (i : Fin 768) (k : Fin 4096) :
    iblk m c 0 t (ix2 i k) = V m c main_v0 (ix2 (row t i) k) :=
  congrArg (V m c main_v0) (emb0 t i k)
theorem iblk1_at (c : Dev nD) (t : Fin cfg0.N) (i : Fin 768) (k : Fin 1) :
    iblk m c 1 t (ix2 i k) = V m c main_v1 (ix2 (row t i) k) :=
  congrArg (V m c main_v1) (emb1 t i k)
theorem iblk2_at (c : Dev nD) (t : Fin cfg0.N) (k : Fin 4096) (j : Fin 1024) :
    iblk m c 2 t (ix2 k j) = V m c main_arg2 (ix2 k (col t j)) :=
  congrArg (V m c main_arg2) (emb2 t k j)
theorem iblk3_at (c : Dev nD) (t : Fin cfg0.N) (k : Fin 1) (j : Fin 1024) :
    iblk m c 3 t (ix2 k j) = V m c main_v2 (ix2 k (col t j)) :=
  congrArg (V m c main_v2) (emb3 t k j)

/-- The one store of the body covers its block, and each load reads its whole block. -/
theorem out_eq (x : Vec Ideal S768x4096 .fp8e4m3) (xs : Vec Ideal S768x1 .f32) (w : Vec Ideal S4096x1024 .fp8e4m3)
    (ws : Vec Ideal S1x1024 .f32) : out0_4 (F := Ideal) x xs w ws = k0_pay1 x w xs ws := by
  unfold out0_4
  rw [View.canon_unit_zero hz, View.ld_unit_zero (S := S768x4096) hz _ x, View.ld_unit_zero (S := S768x1) hz _ xs,
    View.ld_unit_zero (S := S4096x1024) hz _ w, View.ld_unit_zero (S := S1x1024) hz _ ws]

/-- What grid point `t` writes back is its block of `flat` of the flattened operands. -/
theorem flushed_eq (c : Dev nD) (t : Fin cfg0.N) :
    (dats m 0 c).flushed 4 t
      = ((cfg0.win 4).blk t).view.read (Elt Ideal) (flat (V m c main_v0) (V m c main_v1) (V m c main_arg2) (V m c main_v2)) := by
  show (cfg0.win 4).cut (grid0.coords t) ((dats m 0 c).after 4 t) = _
  rw [after0_4, out_eq]
  funext p
  show k0_pay1 (F := Ideal) (iblk m c 0 t) (iblk m c 2 t) (iblk m c 1 t) (iblk m c 3 t) p
    = flat (V m c main_v0) (V m c main_v1) (V m c main_arg2) (V m c main_v2) (((cfg0.win 4).blk t).view.emb p)
  obtain ⟨i, j, rfl⟩ : ∃ (i : Fin 768) (j : Fin 1024), p = ix2 i j :=
    ⟨p 0, p 1, by funext a; match a with | ⟨0, _⟩ => rfl | ⟨1, _⟩ => rfl⟩
  rw [emb4, kernel_block]
  simp only [iblk0_at, iblk1_at, iblk2_at, iblk3_at]
  rfl

/-- Every index of the flattened result is in the block of some grid point. -/
theorem covered (i : S2304x3072.Idx) :
    ∃ t : Fin cfg0.N, (cfg0.win 4).flush t = true ∧ i ∈ ((cfg0.win 4).blk t).view.set := by
  have h0 : (i 0).val < 2304 := (i 0).isLt
  have h1 : (i 1).val < 3072 := (i 1).isLt
  have hr : (i 0).val % 768 < 768 := Nat.mod_lt _ (by omega)
  have hc : (i 1).val % 1024 < 1024 := Nat.mod_lt _ (by omega)
  let t : Fin cfg0.N := ⟨(i 1).val / 1024 * 3 + (i 0).val / 768, by show _ < grid0.N; rw [N_0]; omega⟩
  refine ⟨t, flush0_4 _, ?_⟩
  have e : ((cfg0.win 4).blk t).view.emb (ix2 (⟨(i 0).val % 768, hr⟩ : Fin 768) (⟨(i 1).val % 1024, hc⟩ : Fin 1024)) = i := by
    rw [emb4]
    funext a; apply Fin.ext
    match a with
    | ⟨0, _⟩ => show ((i 1).val / 1024 * 3 + (i 0).val / 768) % 3 * 768 + (i 0).val % 768 = (i 0).val; omega
    | ⟨1, _⟩ => show ((i 1).val / 1024 * 3 + (i 0).val / 768) / 3 * 1024 + (i 1).val % 1024 = (i 1).val; omega
  have h := ((cfg0.win 4).blk t).view.emb_mem_set (ix2 (⟨(i 0).val % 768, hr⟩ : Fin 768) (⟨(i 1).val % 1024, hc⟩ : Fin 1024))
  rwa [e] at h

/-- The flattened result array after the region. -/
theorem final (c : Dev nD) : (dats m 0 c).arrAt 4 cfg0.N
    = flat (V m c main_v0) (V m c main_v1) (V m c main_arg2) (V m c main_v2) :=
  (dats m 0 c).arrAt_eq_of_cover 4 _ (fun t _ => flushed_eq m c t) covered

end Cert.Gelu.Kernel

end
-- ==== Proof.Result.lean ====
module

public import proofs.«01_k».proof.Proof.Array

@[expose] public section

set_option maxRecDepth 16384

noncomputable section

namespace Cert.Gelu

open Idealize.ShloMosaic

/-- The equation: flattening the operands, computing `flat`, and unflattening its result is what the reference stores. -/
theorem unflatten_flat (x : Vec Ideal Cert.KernelIdeal.S3x768x4096 .fp8e4m3) (xs : Vec Ideal Cert.KernelIdeal.S3x768x1 .f32)
    (w : Vec Ideal Cert.KernelIdeal.S4096x3072 .fp8e4m3) (ws : Vec Ideal Cert.KernelIdeal.S3072 .f32) :
    shapeCast Cert.KernelIdeal.S3x768x3072
      (Kernel.flat (shapeCast Cert.KernelIdeal.S2304x4096 x Cert.KernelIdeal.Gen.shapeCasts_S3x768x4096_S2304x4096)
        (shapeCast Cert.KernelIdeal.S2304x1 xs Cert.KernelIdeal.Gen.shapeCasts_S3x768x1_S2304x1) w
        (shapeCast Cert.KernelIdeal.S1x3072 ws Cert.KernelIdeal.Gen.shapeCasts_S3072_S1x3072))
      Cert.KernelIdeal.Gen.shapeCasts_S2304x3072_S3x768x3072
    = Cert.ReferenceIdeal.Gen.k0_pay1 (F := Ideal) x xs w ws := by
  funext p
  obtain ⟨b, s, j, rfl⟩ : ∃ (b : Fin 3) (s : Fin 768) (j : Fin 3072), p = ix3 b s j :=
    ⟨p 0, p 1, p 2, by funext a; match a with | ⟨0, _⟩ => rfl | ⟨1, _⟩ => rfl | ⟨2, _⟩ => rfl⟩
  rw [reference_at]
  unfold Kernel.flat
  pointwise
  have hb : (⟨(b.val * 768 + s.val) / 768, by omega⟩ : Fin 3) = b := Fin.ext (by show _ / 768 = _; omega)
  have hs : (⟨(b.val * 768 + s.val) % 768, by omega⟩ : Fin 768) = s := Fin.ext (by show _ % 768 = _; omega)
  simp only [hb, hs]

end Cert.Gelu

namespace Cert.Gelu.Kernel

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds each flattened operand as the reshape of its argument. -/
theorem V_v0 (c : Dev nD) : V m c main_v0
    = shapeCast S2304x4096 (m ((c : Thread nD τ).loc main_arg0)) shapeCasts_S3x768x4096_S2304x4096 := by
  show StableHlo.after (List.flatten [hostOps0]) (fun b => m (c, b)) (Proc.devRef .tc main_v0) = _
  simp only [hostOps0, List.flatten_cons, List.flatten_nil, List.append_nil]
  after_results
  rfl
theorem V_v1 (c : Dev nD) : V m c main_v1
    = shapeCast S2304x1 (m ((c : Thread nD τ).loc main_arg1)) shapeCasts_S3x768x1_S2304x1 := by
  show StableHlo.after (List.flatten [hostOps0]) (fun b => m (c, b)) (Proc.devRef .tc main_v1) = _
  simp only [hostOps0, List.flatten_cons, List.flatten_nil, List.append_nil]
  after_results
  rfl
theorem V_v2 (c : Dev nD) : V m c main_v2
    = shapeCast S1x3072 (m ((c : Thread nD τ).loc main_arg3)) shapeCasts_S3072_S1x3072 := by
  show StableHlo.after (List.flatten [hostOps0]) (fun b => m (c, b)) (Proc.devRef .tc main_v2) = _
  simp only [hostOps0, List.flatten_cons, List.flatten_nil, List.append_nil]
  after_results
  rfl

/-- The host's last line leaves the result as the reshape of the region's output array. -/
theorem tail (c : Dev nD) : Pipeline.afterTail₀ cfgs (dats m) 0 (V0 m) [hostOps1] c main_v4
    = shapeCast S3x768x3072 ((dats m 0 c).arrAt 4 cfg0.N) shapeCasts_S2304x3072_S3x768x3072 := by
  unfold Pipeline.afterTail₀
  simp only [hostOps1, List.flatten_cons, List.flatten_nil, List.append_nil]
  rw [StableHlo.after_cons, StableHlo.after_nil, StableHlo.reshape_result]
  have h := Pipeline.withArrays_arr (τ := τ) spec0 launch0.win.arr_inj c (V0 m c) (fun w => (dats m 0 c).arrAt w cfg0.N) 4
  funext i
  exact congrArg (fun A : Vec Ideal S2304x3072 .bf16 => shapeCast S3x768x3072 A shapeCasts_S2304x3072_S3x768x3072 i) h

/-- The kernel runs, its result is the reference's function of its arguments, and the arguments end unchanged. -/
theorem run : θ_run defs (onTc (τ := τ) (main (F := Ideal))) ⟨m, fun _ => 0, ρ⟩ fun r => ∀ c : Dev nD,
      r.2.mem ((c.tc : Thread nD τ).loc main_v4)
        = Cert.ReferenceIdeal.Gen.k0_pay1 (F := Ideal) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, h.2 c⟩) (θ_run_and (run_main m ρ) (unchanged m ρ))
  replace h := h.1
  refine ((h c).2 main_v4 (Pipeline.mem_restRefs_of main_v4 (by decide) (by decide))).trans ((tail m c).trans ?_)
  rw [final, V_v0, V_v1, V_v2, V_main_arg2]
  exact unflatten_flat _ _ _ _

end Cert.Gelu.Kernel

end
-- ==== Proof.lean ====
/- The five claims about the tiled fp8 linear layer with tanh-GELU: the frames are the generated ones, and the value claim
   sets the kernel's run (Proof/Result.lean) beside the reference's run. -/
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.Result
public import Idealize.ShloMosaic.Adequacy
public import Idealize.ShloMosaic.Init

@[expose] public section

noncomputable section

namespace Cert.Proof

open Idealize.ShloMosaic Idealize.SL.Sem

/-- Each program runs without fault, leaves its arguments unchanged and ends with every semaphore at zero. -/
theorem frame_kernel : Cert.quiescent_Kernel := fun m ρ _ => Cert.Kernel.Gen.frame m ρ
theorem frame_kernelIdeal : Cert.quiescent_KernelIdeal := fun m ρ _ => Cert.KernelIdeal.Gen.frame m ρ
theorem frame_referenceIdeal : Cert.quiescent_ReferenceIdeal := fun m ρ _ => Cert.ReferenceIdeal.Gen.frame m ρ

/-- Over the extended reals the kernel and the reference end with equal results from equal arguments. -/
theorem algebraic : Cert.algebraic_KernelIdeal_ReferenceIdeal := by
  intro m ρ m' ρ' _ hag
  refine ⟨_, Cert.Gelu.Kernel.run m ρ, (θ_run _ _ _).mono (fun _ h c => ⟨(h c).1.trans ?_, (h c).2⟩)
    (Cert.ReferenceIdeal.Value.run (F := Ideal) m' ρ')⟩
  obtain ⟨h0, h1, h2, h3⟩ := hag c
  rw [h0, h1, h2, h3]

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
